-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S65536x2048 : Shape := ⟨2, ![65536, 2048]⟩
abbrev S65536 : Shape := ⟨1, ![65536]⟩
abbrev S2048x20 : Shape := ⟨2, ![2048, 20]⟩
abbrev S20 : Shape := ⟨1, ![20]⟩
abbrev S128x128 : Shape := ⟨2, ![128, 128]⟩
abbrev S1x128 : Shape := ⟨2, ![1, 128]⟩
abbrev S_ : Shape := ⟨0, ![]⟩
abbrev S2048x128 : Shape := ⟨2, ![2048, 128]⟩
abbrev S1 : Shape := ⟨1, ![1]⟩
abbrev S2048 : Shape := ⟨1, ![2048]⟩
abbrev S2 : Shape := ⟨1, ![2]⟩
abbrev S32x1x2048 : Shape := ⟨3, ![32, 1, 2048]⟩
abbrev S256x128 : Shape := ⟨2, ![256, 128]⟩
abbrev S2048x2048 : Shape := ⟨2, ![2048, 2048]⟩
abbrev S1x1x2048 : Shape := ⟨3, ![1, 1, 2048]⟩
abbrev S2048x1 : Shape := ⟨2, ![2048, 1]⟩
abbrev S128 : Shape := ⟨1, ![128]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S256x21 : Shape := ⟨2, ![256, 21]⟩

abbrev nBuf : Space → Nat
  | .hbm => 27
  | .vmem => 9
  | .smem => 0
  | _ => 0

abbrev bufTy : (tb : Table) → Fin (tcTables nBuf tb) → BufTy
  | .hbm, ⟨0, _⟩ => ⟨S65536x2048, .f32⟩
  | .hbm, ⟨1, _⟩ => ⟨S65536, .i32⟩
  | .hbm, ⟨2, _⟩ => ⟨S2048x20, .f32⟩
  | .hbm, ⟨3, _⟩ => ⟨S20, .f32⟩
  | .hbm, ⟨4, _⟩ => ⟨S128x128, .f32⟩
  | .hbm, ⟨5, _⟩ => ⟨S1x128, .f32⟩
  | .hbm, ⟨6, _⟩ => ⟨S_, .f32⟩
  | .hbm, ⟨7, _⟩ => ⟨S2048x128, .f32⟩
  | .hbm, ⟨8, _⟩ => ⟨S_, .i32⟩
  | .hbm, ⟨9, _⟩ => ⟨S1, .i32⟩
  | .hbm, ⟨10, _⟩ => ⟨S2048x128, .f32⟩
  | .hbm, ⟨11, _⟩ => ⟨S_, .i32⟩
  | .hbm, ⟨12, _⟩ => ⟨S1, .i32⟩
  | .hbm, ⟨13, _⟩ => ⟨S_, .f32⟩
  | .hbm, ⟨14, _⟩ => ⟨S2048, .f32⟩
  | .hbm, ⟨15, _⟩ => ⟨S2048x128, .f32⟩
  | .hbm, ⟨16, _⟩ => ⟨S_, .f32⟩
  | .hbm, ⟨17, _⟩ => ⟨S1x128, .f32⟩
  | .hbm, ⟨18, _⟩ => ⟨S_, .i32⟩
  | .hbm, ⟨19, _⟩ => ⟨S1, .i32⟩
  | .hbm, ⟨20, _⟩ => ⟨S_, .i32⟩
  | .hbm, ⟨21, _⟩ => ⟨S1, .i32⟩
  | .hbm, ⟨22, _⟩ => ⟨S2, .i32⟩
  | .hbm, ⟨23, _⟩ => ⟨S1x128, .f32⟩
  | .hbm, ⟨24, _⟩ => ⟨S32x1x2048, .i32⟩
  | .hbm, ⟨25, _⟩ => ⟨S256x128, .f32⟩
  | .hbm, ⟨26, _⟩ => ⟨S256x21, .f32⟩
  | .local _ .vmem, ⟨0, _⟩ => ⟨S2048x2048, .f32⟩
  | .local _ .vmem, ⟨1, _⟩ => ⟨S2048x2048, .f32⟩
  | .local _ .vmem, ⟨2, _⟩ => ⟨S1x1x2048, .i32⟩
  | .local _ .vmem, ⟨3, _⟩ => ⟨S1x1x2048, .i32⟩
  | .local _ .vmem, ⟨4, _⟩ => ⟨S2048x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S256x128, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_2 : Ref sig .tc := ⟨.hbm, 11, rfl⟩
abbrev main_v3 : Ref sig .tc := ⟨.hbm, 12, rfl⟩
abbrev main_cst_3 : Ref sig .tc := ⟨.hbm, 13, rfl⟩
abbrev main_v4 : Ref sig .tc := ⟨.hbm, 14, rfl⟩
abbrev main_v5 : Ref sig .tc := ⟨.hbm, 15, rfl⟩
abbrev main_cst_4 : Ref sig .tc := ⟨.hbm, 16, rfl⟩
abbrev main_v6 : Ref sig .tc := ⟨.hbm, 17, rfl⟩
abbrev main_c_5 : Ref sig .tc := ⟨.hbm, 18, rfl⟩
abbrev main_v7 : Ref sig .tc := ⟨.hbm, 19, rfl⟩
abbrev main_c_6 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S65536x2048 : Shape := ⟨2, ![65536, 2048]⟩
abbrev S65536 : Shape := ⟨1, ![65536]⟩
abbrev S2048x20 : Shape := ⟨2, ![2048, 20]⟩
abbrev S20 : Shape := ⟨1, ![20]⟩
abbrev S20x21 : Shape := ⟨2, ![20, 21]⟩
abbrev S_ : Shape := ⟨0, ![]⟩
abbrev S65536x1 : Shape := ⟨2, ![65536, 1]⟩
abbrev S65536x20 : Shape := ⟨2, ![65536, 20]⟩
abbrev S1x20 : Shape := ⟨2, ![1, 20]⟩
abbrev S65536x21 : Shape := ⟨2, ![65536, 21]⟩
abbrev S256x21 : Shape := ⟨2, ![256, 21]⟩
abbrev S256 : Shape := ⟨1, ![256]⟩
abbrev S256x1 : Shape := ⟨2, ![256, 1]⟩

abbrev nBuf : Space → Nat
  | .hbm => 47
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S65536, .i32⟩
  | .hbm, ⟨2, _⟩ => ⟨S2048x20, .f32⟩
  | .hbm, ⟨3, _⟩ => ⟨S20, .f32⟩
  | .hbm, ⟨4, _⟩ => ⟨S20x21, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S65536x2048, .f32⟩
  | .hbm, ⟨12, _⟩ => ⟨S65536x2048, .f32⟩
  | .hbm, ⟨13, _⟩ => ⟨S_, .f32⟩
  | .hbm, ⟨14, _⟩ => ⟨S65536x2048, .f32⟩
  | .hbm, ⟨15, _⟩ => ⟨S65536x2048, .f32⟩
  | .hbm, ⟨16, _⟩ => ⟨S65536x20, .f32⟩
  | .hbm, ⟨17, _⟩ => ⟨S1x20, .f32⟩
  | .hbm, ⟨18, _⟩ => ⟨S65536x20, .f32⟩
  | .hbm, ⟨19, _⟩ => ⟨S65536x20, .f32⟩
  | .hbm, ⟨20, _⟩ => ⟨S65536x21, .f32⟩
  | .hbm, ⟨21, _⟩ => ⟨S_, .f32⟩
  | .hbm, ⟨22, _⟩ => ⟨S65536, .f32⟩
  | .hbm, ⟨23, _⟩ => ⟨S_, .f32⟩
  | .hbm, ⟨24, _⟩ => ⟨S65536, .f32⟩
  | .hbm, ⟨25, _⟩ => ⟨S65536, .f32⟩
  | .hbm, ⟨26, _⟩ => ⟨S65536x1, .f32⟩
  | .hbm, ⟨27, _⟩ => ⟨S65536x21, .f32⟩
  | .hbm, ⟨28, _⟩ => ⟨S65536x21, .f32⟩
  | .hbm, ⟨29, _⟩ => ⟨S65536x21, .f32⟩
  | .hbm, ⟨30, _⟩ => ⟨S_, .f32⟩
  | .hbm, ⟨31, _⟩ => ⟨S65536, .f32⟩
  | .hbm, ⟨32, _⟩ => ⟨S65536x1, .f32⟩
  | .hbm, ⟨33, _⟩ => ⟨S65536x21, .f32⟩
  | .hbm, ⟨34, _⟩ => ⟨S65536x21, .f32⟩
  | .hbm, ⟨35, _⟩ => ⟨S_, .f32⟩
  | .hbm, ⟨36, _⟩ => ⟨S256x21, .f32⟩
  | .hbm, ⟨37, _⟩ => ⟨S65536x1, .i32⟩
  | .hbm, ⟨38, _⟩ => ⟨S256x21, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x21, .f32⟩
  | .hbm, ⟨46, _⟩ => ⟨S256x21, .f32⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_cst_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Proof.KernelRun.lean ====
/-
  The run of the fused kernel, read: what its 32 grid points leave in the accumulator window, what the
  pipeline's output array therefore holds, and what @main returns (the first 21 lanes of that array).
  Everything here holds for any float values.
-/
module

public import proofs.«01_k».proof.Proof.Gen.KernelIdeal.Frame
public import Idealize.ShloMosaic.Lib.Pipeline.Value

@[expose] public section

noncomputable section

namespace Cert.KernelIdeal.FoldRun

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- The offsets of a whole rank-2 rectangle are zero. -/
theorem off2 : (![0, 0] : Fin 2 → Nat) = fun _ => 0 := funext fun a => by fin_cases a <;> rfl
/-- The offsets of a whole rank-3 rectangle are zero. -/
theorem off3 : (![0, 0, 0] : Fin 3 → Nat) = fun _ => 0 := funext fun a => by fin_cases a <;> rfl

/-- One point's contribution over its six input blocks: the softmax weights of the block's 2048 rows, added
    segment by segment to the accumulator `acc`. -/
abbrev addBlock (x0 : Vec F S2048x2048 .f32) (x1 : Vec F S1x1x2048 .i32) (x2 : Vec F S2048x128 .f32) (x3 : Vec F S128x128 .f32)
    (x4 : Vec F S1x128 .f32) (x5 : Vec F S1x128 .f32) (acc : Vec F S256x128 .f32) : Vec F S256x128 .f32 :=
  k0_pay1 (k0_pay4 x0 x2 x4 x3 x5) (k0_pay5 x0 x2 x4 x3 x5) x1 acc

section Cases

variable (c : Dev nD) (i : grid0.Coords)
  (arg1 : Memref sig .tc .vmem S2048x2048 .f32) (harg1 : arg1.IsWhole) (arg2 : Memref sig .tc .vmem S1x1x2048 .i32) (harg2 : arg2.IsWhole)
  (arg3 : Memref sig .tc .vmem S2048x128 .f32) (harg3 : arg3.IsWhole) (arg4 : Memref sig .tc .vmem S128x128 .f32) (harg4 : arg4.IsWhole)
  (arg5 : Memref sig .tc .vmem S1x128 .f32) (harg5 : arg5.IsWhole) (arg6 : Memref sig .tc .vmem S1x128 .f32) (harg6 : arg6.IsWhole)
  (arg7 : Memref sig .tc .vmem S256x128 .f32) (harg7 : arg7.IsWhole)
  (x0 : Vec F S2048x2048 .f32) (x1 : Vec F S1x1x2048 .i32) (x2 : Vec F S2048x128 .f32) (x3 : Vec F S128x128 .f32)
  (x4 : Vec F S1x128 .f32) (x5 : Vec F S1x128 .f32) (acc : Vec F S256x128 .f32)

/-- The first point zeroes the accumulator and adds its block. -/
theorem first_case (hc0 : cond0_0 i) (hc1 : ¬cond0_1 i) :
    out0_A_6 c i arg1 harg1 arg2 harg2 arg3 harg3 arg4 harg4 arg5 harg5 arg6 harg6 arg7 harg7 hc0 hc1 x0 x1 x2 x3 x4 x5
      = addBlock x0 x1 x2 x3 x4 x5 (k0_pay3 (F := F)) := by
  unfold out0_A_6
  rw [View.read_writes_eq_canon _ _ _ (cover0_A_6 c i arg1 harg1 arg2 harg2 arg3 harg3 arg4 harg4 arg5 harg5 arg6 harg6 arg7 harg7 hc0 hc1 x0 x1 x2 x3 x4 x5)]
  unfold kernelRun0_A
  dsimp only
  try sl_unfold_words
  rw [View.canon_cons_unit_zero (S := S256x128) off2, View.readCov_unit_zero (S := S256x128) _ off2]
  simp only [View.readAt_eq_ld, harg1.read_unread, harg2.read_unread, harg3.read_unread, harg4.read_unread, harg5.read_unread, harg6.read_unread, harg7.read_unread, View.ld_unit_zero (S := S128x128) off2, View.ld_unit_zero (S := S1x128) off2, View.ld_unit_zero (S := S1x1x2048) off3, View.ld_unit_zero (S := S2048x128) off2, View.ld_unit_zero (S := S2048x2048) off2, View.ld_unit_zero (S := S256x128) off2, shapeCast_self]

/-- A middle point adds its block to what it finds. -/
theorem middle_case (hc0 : ¬cond0_0 i) (hc1 : ¬cond0_1 i) :
    out0_B_6 c i arg1 harg1 arg2 harg2 arg3 harg3 arg4 harg4 arg5 harg5 arg6 harg6 arg7 harg7 hc0 hc1 x0 x1 x2 x3 x4 x5 acc
      = addBlock x0 x1 x2 x3 x4 x5 acc := by
  unfold out0_B_6
  rw [View.read_writes_eq_canon _ _ _ (cover0_B_6 c i arg1 harg1 arg2 harg2 arg3 harg3 arg4 harg4 arg5 harg5 arg6 harg6 arg7 harg7 hc0 hc1 x0 x1 x2 x3 x4 x5 acc)]
  unfold kernelRun0_B
  dsimp only
  try sl_unfold_words
  rw [View.canon_unit_zero off2]
  simp only [View.readAt_eq_ld, harg1.read_unread, harg2.read_unread, harg3.read_unread, harg4.read_unread, harg5.read_unread, harg6.read_unread, harg7.read_unread, View.ld_unit_zero (S := S128x128) off2, View.ld_unit_zero (S := S1x128) off2, View.ld_unit_zero (S := S1x1x2048) off3, View.ld_unit_zero (S := S2048x128) off2, View.ld_unit_zero (S := S2048x2048) off2, View.ld_unit_zero (S := S256x128) off2, shapeCast_self]

/-- The last point adds its block and then divides every row by its floored sum. -/
theorem last_case (hc0 : ¬cond0_0 i) (hc1 : cond0_1 i) :
    out0_C_6 c i arg1 harg1 arg2 harg2 arg3 harg3 arg4 harg4 arg5 harg5 arg6 harg6 arg7 harg7 hc0 hc1 x0 x1 x2 x3 x4 x5 acc
      = k0_pay2 (addBlock x0 x1 x2 x3 x4 x5 acc) := by
  unfold out0_C_6
  rw [View.read_writes_eq_canon _ _ _ (cover0_C_6 c i arg1 harg1 arg2 harg2 arg3 harg3 arg4 harg4 arg5 harg5 arg6 harg6 arg7 harg7 hc0 hc1 x0 x1 x2 x3 x4 x5 acc)]
  unfold kernelRun0_C
  dsimp only
  try sl_unfold_words
  rw [View.canon_cons_unit_zero (S := S256x128) off2, View.readCov_unit_zero (S := S256x128) _ off2]
  simp only [View.readAt_eq_ld, harg1.read_unread, harg2.read_unread, harg3.read_unread, harg4.read_unread, harg5.read_unread, harg6.read_unread, harg7.read_unread, View.ld_unit_zero (S := S128x128) off2, View.ld_unit_zero (S := S1x128) off2, View.ld_unit_zero (S := S1x1x2048) off3, View.ld_unit_zero (S := S2048x128) off2, View.ld_unit_zero (S := S2048x2048) off2, View.ld_unit_zero (S := S256x128) off2, shapeCast_self]

end Cases

/-- Grid point `t`'s step: its six input blocks' contribution on top of `acc`. -/
def pointStep (c : Dev nD) (t : Fin cfg0.N) (acc : Vec F S256x128 .f32) : Vec F S256x128 .f32 :=
  addBlock (iblk m c 0 t) (iblk m c 1 t) (iblk m c 2 t) (iblk m c 3 t) (iblk m c 4 t) (iblk m c 5 t) acc

/-- The segment totals after the points `0 … n`. -/
def totals (c : Dev nD) : (n : ℕ) → n < cfg0.N → Vec F S256x128 .f32
  | 0, h => pointStep m c ⟨0, h⟩ (k0_pay3 (F := F))
  | n + 1, h => pointStep m c ⟨n + 1, h⟩ (totals c n (Nat.lt_of_succ_lt h))

/-- Before the last point the accumulator holds the totals so far. -/
theorem outs_eq_totals (c : Dev nD) : ∀ (n : ℕ) (h : n < cfg0.N), n < 31 → outsAt0 m c n h = totals m c n h
  | 0, h, _ => (outsAt0_A m c ⟨0, h⟩ (Nat.zero_mod 32) (by dsimp only; omega)).trans (first_case ..)
  | n + 1, h, hn => by
    refine (outsAt0_B m c ⟨n + 1, h⟩ (by dsimp only; omega) (by dsimp only; omega)).trans ((middle_case ..).trans ?_)
    show pointStep m c ⟨n + 1, h⟩ (outsAt0 m c n _) = _
    rw [outs_eq_totals c n (Nat.lt_of_succ_lt h) (by omega)]
    rfl

/-- The grid has a point 31. -/
theorem last_lt : 31 < cfg0.N := by rw [show cfg0.N = 32 from N_0]; decide

/-- The last point leaves the totals of all 32 points, each row divided by its floored sum. -/
theorem outs_last (c : Dev nD) : outsAt0 m c 31 last_lt = k0_pay2 (totals m c 31 last_lt) := by
  refine (outsAt0_C m c ⟨31, last_lt⟩ (by decide) (by decide)).trans ((last_case ..).trans ?_)
  show k0_pay2 (pointStep m c ⟨31, last_lt⟩ (outsAt0 m c 30 _)) = _
  rw [outs_eq_totals m c 30 _ (by decide)]
  rfl

/-- What the pipeline's output array ends holding. -/
def outArr (c : Dev nD) : Buf (Elt F) ((c : Thread nD τ).loc main_v12) := k0_pay2 (totals m c 31 last_lt)

/-- The output window is the whole array at every point. -/
theorem win6_index : ∀ t : Fin cfg0.N, win0_6.index t (0 : Fin 2) = 0 ∧ win0_6.index t (1 : Fin 2) = 0 :=
  (by decide +kernel : ∀ t : Fin grid0.N, _)

/-- Writing back happens at the last point only, and writes `outArr`. -/
theorem flushed_outArr (c : Dev nD) (t : Fin cfg0.N) (hf : (cfg0.win 6).flush t = true) :
    (dats m 0 c).flushed 6 t = ((cfg0.win 6).blk t).view.read (Elt F) (outArr m c) := by
  have hN : t.val < 32 := lt_of_lt_of_eq t.isLt (show cfg0.N = 32 from N_0)
  have hm : t.val % 32 = 31 := (flush0_6 t).mp hf
  obtain rfl : t = ⟨31, last_lt⟩ := Fin.ext (by dsimp only; omega)
  show (cfg0.win 6).cut (grid0.coords ⟨31, last_lt⟩) ((dats m 0 c).after 6 ⟨31, last_lt⟩) = _
  rw [after0_6]
  obtain ⟨e0, e1⟩ := win6_index ⟨31, last_lt⟩
  funext y
  show outsAt0 m c 31 last_lt ((cfg0.win 6).xinj (grid0.coords ⟨31, last_lt⟩) y) = outArr m c (((cfg0.win 6).blk ⟨31, last_lt⟩).view.emb y)
  rw [outs_last]
  unfold outArr
  refine congrArg _ (funext fun a => Fin.ext ?_)
  match a with
  | ⟨0, _⟩ =>
    have hb : (((cfg0.win 6).blk ⟨31, last_lt⟩).view.emb y 0).val = win0_6.index ⟨31, last_lt⟩ (0 : Fin 2) * 256 + 1 * (y 0).val := rfl
    rw [e0] at hb
    show (y 0).val = (((cfg0.win 6).blk ⟨31, last_lt⟩).view.emb y 0).val
    omega
  | ⟨1, _⟩ =>
    have hb : (((cfg0.win 6).blk ⟨31, last_lt⟩).view.emb y 1).val = win0_6.index ⟨31, last_lt⟩ (1 : Fin 2) * 128 + 1 * (y 1).val := rfl
    rw [e1] at hb
    show (y 1).val = (((cfg0.win 6).blk ⟨31, last_lt⟩).view.emb y 1).val
    omega

/-- Every index of the output array is in the last point's block. -/
theorem covered (i : S256x128.Idx) : ∃ t : Fin cfg0.N, (cfg0.win 6).flush t = true ∧ i ∈ ((cfg0.win 6).blk t).view.set := by
  refine ⟨⟨31, last_lt⟩, (flush0_6 ⟨31, last_lt⟩).mpr (by decide), ?_⟩
  show i ∈ ((View.whole main_v12).slice (win0_6.rect ⟨31, last_lt⟩)).set
  rw [View.set_slice_whole, Rect.mem_set_unit]
  obtain ⟨e0, e1⟩ := win6_index ⟨31, last_lt⟩
  have hi0 : (i 0).val < 256 := (i 0).isLt
  have hi1 : (i 1).val < 128 := (i 1).isLt
  intro a
  match a with
  | ⟨0, _⟩ =>
    show win0_6.index ⟨31, last_lt⟩ (0 : Fin 2) * 256 ≤ (i 0).val ∧ (i 0).val < win0_6.index ⟨31, last_lt⟩ (0 : Fin 2) * 256 + 256
    omega
  | ⟨1, _⟩ =>
    show win0_6.index ⟨31, last_lt⟩ (1 : Fin 2) * 128 ≤ (i 1).val ∧ (i 1).val < win0_6.index ⟨31, last_lt⟩ (1 : Fin 2) * 128 + 128
    omega

/-- The pipeline's output array after all its points. -/
theorem final_outArr (c : Dev nD) : (dats m 0 c).arrAt 6 cfg0.N = outArr m c :=
  (dats m 0 c).arrAt_eq_of_cover 6 _ (fun t hf => flushed_outArr m c t hf) covered

/-- What @main returns: the first 21 lanes of the output array. -/
def result (c : Dev nD) : Buf (Elt F) ((c : Thread nD τ).loc main_v13) :=
  extractStridedSlice S256x21 ![0, 0] (outArr m c : (⟨S256x128, .f32⟩ : BufTy).Contents (Elt F)) slices_S256x128_S256x21_0_0

/-- The line after the pipeline slices the output array. -/
theorem tail_result (c : Dev nD) :
    Pipeline.afterTail₀ cfgs (dats m) 0 (V0 m) [hostOps1] c main_v13 = result m c := by
  unfold Pipeline.afterTail₀ result
  rw [← final_outArr]
  simp only [hostOps1, List.flatten_cons, List.flatten_nil, List.append_nil]
  rw [StableHlo.after_cons, StableHlo.after_nil]
  refine (StableHlo.unary_result' ..).trans ?_
  exact congrArg (fun v => extractStridedSlice S256x21 ![0, 0] (v : (⟨S256x128, .f32⟩ : BufTy).Contents (Elt F)) slices_S256x128_S256x21_0_0)
    (Pipeline.withArrays_arr spec0 winFacts0.arr_inj c (V0 m c) (fun w => (dats m 0 c).arrAt w cfg0.N) 6)

/-- Every execution ends with the result buffer at `result` and the arguments as launched. -/
theorem run : θ_run defs (onTc (τ := τ) (main (F := F))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).2 main_v13 (Pipeline.mem_restRefs_of main_v13 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.FoldRun

end
-- ==== Proof.HostOperands.lean ====
/-
  What the host operations before the region leave in the kernel's operands: the padded weights with their
  column of ones, the padded bias, the regrouped cell labels and the two literal tables, read at an index;
  and each window's block at a grid point, read at an index.
-/
module

public import proofs.«01_k».proof.Proof.KernelRun
public import Idealize.ShloMosaic.Lib.Pointwise
public import Idealize.ShloMosaic.Lib.Routing.OpsSet
public import Idealize.ShloMosaic.Lib.StableHlo.ReadAt
public import Idealize.ShloMosaic.Lib.StableHlo.RunRead
public import Idealize.ShloMosaic.Lib.Claim
public import Idealize.ShloMosaic.Lib.Pipeline.ValueKit

@[expose] public section

set_option maxRecDepth 16384

namespace Cert.KernelIdeal.FoldRun

open Cert.KernelIdeal Cert.KernelIdeal.Gen Idealize.ShloMosaic Idealize.ShloMosaic.TcCoe Idealize.SL.Sem
open Idealize.ShloMosaic.Routing (resultIdx?_eq_some scatter_set_hit scatter_set_miss)

variable {F : FTy → Type} [FloatOps F] [Named F]
variable (m : (ℓ : Loc nD τ sig) → Buf (Elt F) ℓ)

/-! ### The host line's results -/

/-- The padded weights: the weights scattered at column 0 of a zero matrix, then ones at column 20. -/
theorem V_main_v5 (c : Dev nD) : (V m c main_v5 : Vec F S2048x128 .f32) =
    Host.scatter scatter_S2048x128_S1_S2048_0_1_1_0 (fun _ b => b)
      (Host.scatter scatter_S2048x128_S1_S2048x20_01_n_1_0 (fun _ b => b)
        (broadcastInDim S2048x128 ![] bcast_S_S2048x128 (constant (F := F) S_ .f32 0x00000000#32))
        (broadcastInDim S1 ![] bcast_S_S1 (constantI S_ 32 0#32)) (m ((c : Thread nD τ).loc main_arg2) : Vec F S2048x20 .f32))
      (broadcastInDim S1 ![] bcast_S_S1 (constantI S_ 32 20#32))
      (broadcastInDim S2048 ![] bcast_S_S2048 (constant S_ .f32 0x3F800000#32)) := by
  show StableHlo.after hostOps0 (fun b => m (c, b)) (Proc.devRef .tc main_v5) = _
  after_reads_simp

/-- The padded bias: the bias scattered at the origin of a zero row. -/
theorem V_main_v10 (c : Dev nD) : (V m c main_v10 : Vec F S1x128 .f32) =
    Host.scatter scatter_S1x128_S2_S20_0_0_01_0 (fun _ b => b)
      (broadcastInDim S1x128 ![] bcast_S_S1x128 (constant (F := F) S_ .f32 0x00000000#32))
      (concatenate S2 0 [⟨S1, broadcastInDim S1 ![] bcast_S_S1 (constantI S_ 32 0#32)⟩,
        ⟨S1, broadcastInDim S1 ![] bcast_S_S1 (constantI S_ 32 0#32)⟩] concatenates_S1_S1_S2_d0)
      (m ((c : Thread nD τ).loc main_arg3) : Vec F S20 .f32) := by
  show StableHlo.after hostOps0 (fun b => m (c, b)) (Proc.devRef .tc main_v10) = _
  after_reads_simp
  rfl

/-- The cell labels, regrouped a block to a row. -/
theorem V_main_v11 (c : Dev nD) : (V m c main_v11 : Vec F S32x1x2048 .i32) =
    shapeCast S32x1x2048 (m ((c : Thread nD τ).loc main_arg1) : Vec F S65536 .i32) shapeCasts_S65536_S32x1x2048 := by
  show StableHlo.after hostOps0 (fun b => m (c, b)) (Proc.devRef .tc main_v11) = _
  after_reads_simp
  rfl

/-- The padded transform is the first literal table. -/
theorem V_main_cst (c : Dev nD) : (V m c main_cst : Vec F S128x128 .f32) =
    fun i => FloatOps.ofBits .f32 (lit0 (S128x128.rowMajor i)) := by
  show StableHlo.after hostOps0 (fun b => m (c, b)) (Proc.devRef .tc main_cst) = _
  after_reads_simp
  rfl

/-- The row marking the lanes past the cell types is the second literal table. -/
theorem V_main_cst_0 (c : Dev nD) : (V m c main_cst_0 : Vec F S1x128 .f32) =
    fun i => FloatOps.ofBits .f32 (lit1 (S1x128.rowMajor i)) := by
  show StableHlo.after hostOps0 (fun b => m (c, b)) (Proc.devRef .tc main_cst_0) = _
  after_reads_simp
  rfl

/-! ### The blocks -/

/-- Each window's block index at each point. -/
theorem index_0 : ∀ t : Fin cfg0.N, win0_0.index t = ![t.val, 0] := by decide +kernel
/-- Each window's block index at each point. -/
theorem index_1 : ∀ t : Fin cfg0.N, win0_1.index t = ![t.val, 0, 0] := by decide +kernel
/-- Each window's block index at each point. -/
theorem index_2 : ∀ t : Fin cfg0.N, win0_2.index t = ![0, 0] := by decide +kernel
/-- Each window's block index at each point. -/
theorem index_3 : ∀ t : Fin cfg0.N, win0_3.index t = ![0, 0] := by decide +kernel
/-- Each window's block index at each point. -/
theorem index_4 : ∀ t : Fin cfg0.N, win0_4.index t = ![0, 0] := by decide +kernel
/-- Each window's block index at each point. -/
theorem index_5 : ∀ t : Fin cfg0.N, win0_5.index t = ![0, 0] := by decide +kernel

/-- The counts block at point `t` is rows `2048 t ..` of the counts. -/
theorem block_0 (c : Dev nD) (t : Fin cfg0.N) (r k : Fin 2048) (n : Fin 65536) (hn : n.val = t.val * 2048 + r.val) :
    iblk m c 0 t (ix2 r k) = m ((c : Thread nD τ).loc main_arg0) (ix2 n k) := by
  blk_ext [iblk, V_main_arg0, index_0 t]

/-- The label block at point `t` is labels `2048 t ..`. -/
theorem block_1 (c : Dev nD) (t : Fin cfg0.N) (r : Fin 2048) (n : Fin 65536) (hn : n.val = t.val * 2048 + r.val) :
    iblk m c 1 t (ix3 0 0 r) = m ((c : Thread nD τ).loc main_arg1) (ix1 n) := by
  have h : iblk m c 1 t (ix3 0 0 r) = V m c main_v11 (ix3 ⟨t.val, t.isLt⟩ 0 r) := by
    blk_ext [iblk, index_1 t]
  rw [h]
  refine (congrFun (V_main_v11 m c) (ix3 ⟨t.val, t.isLt⟩ 0 r)).trans ?_
  generalize m ((c : Thread nD τ).loc main_arg1) = x
  pointwise
  blk_ext

/-- The weights block is the whole padded matrix at every point. -/
theorem block_2 (c : Dev nD) (t : Fin cfg0.N) (r : Fin 2048) (k : Fin 128) : iblk m c 2 t (ix2 r k) = V m c main_v5 (ix2 r k) := by
  blk_ext [iblk, index_2 t]
/-- The transform block is the whole table at every point. -/
theorem block_3 (c : Dev nD) (t : Fin cfg0.N) (r k : Fin 128) : iblk m c 3 t (ix2 r k) = V m c main_cst (ix2 r k) := by
  blk_ext [iblk, index_3 t]
/-- The bias block is the whole row at every point. -/
theorem block_4 (c : Dev nD) (t : Fin cfg0.N) (k : Fin 128) : iblk m c 4 t (ix2 0 k) = V m c main_v10 (ix2 0 k) := by
  blk_ext [iblk, index_4 t]
/-- The marking block is the whole row at every point. -/
theorem block_5 (c : Dev nD) (t : Fin cfg0.N) (k : Fin 128) : iblk m c 5 t (ix2 0 k) = V m c main_cst_0 (ix2 0 k) := by
  blk_ext [iblk, index_5 t]

/-! ### Where the scatters land -/

/-- The weights' scatter, its index word zero, lands entry `(g, k)` at `(g, k)`. -/
theorem lands_weights (idx : IVec S1 32) (h : ∀ a, (idx a).toInt = 0) (g g' : Fin 2048) (k : Fin 20) (l : Fin 128) :
    scatter_S2048x128_S1_S2048x20_01_n_1_0.resultIdx? (ix2 g k) idx = some (ix2 g' l) ↔ g.val = g'.val ∧ k.val = l.val := by
  have e0 : scatter_S2048x128_S1_S2048x20_01_n_1_0.start (ix2 g k) idx 0 = 0 := rfl
  have e1 : scatter_S2048x128_S1_S2048x20_01_n_1_0.start (ix2 g k) idx 1 = 0 := h _
  have w0 : scatter_S2048x128_S1_S2048x20_01_n_1_0.window (ix2 g k) 0 = g.val := rfl
  have w1 : scatter_S2048x128_S1_S2048x20_01_n_1_0.window (ix2 g k) 1 = k.val := rfl
  rw [resultIdx?_eq_some, Fin.forall_fin_two, e0, e1, w0, w1]
  show 0 + (g.val : Int) = (g'.val : Int) ∧ 0 + (k.val : Int) = (l.val : Int) ↔ _
  omega

/-- The ones' scatter, its index word twenty, lands entry `g` at `(g, 20)`. -/
theorem lands_ones (idx : IVec S1 32) (h : ∀ a, (idx a).toInt = 20) (g g' : Fin 2048) (l : Fin 128) :
    scatter_S2048x128_S1_S2048_0_1_1_0.resultIdx? (ix1 g) idx = some (ix2 g' l) ↔ g.val = g'.val ∧ l.val = 20 := by
  have e0 : scatter_S2048x128_S1_S2048_0_1_1_0.start (ix1 g) idx 0 = 0 := rfl
  have e1 : scatter_S2048x128_S1_S2048_0_1_1_0.start (ix1 g) idx 1 = 20 := h _
  have w0 : scatter_S2048x128_S1_S2048_0_1_1_0.window (ix1 g) 0 = g.val := rfl
  have w1 : scatter_S2048x128_S1_S2048_0_1_1_0.window (ix1 g) 1 = 0 := rfl
  rw [resultIdx?_eq_some, Fin.forall_fin_two, e0, e1, w0, w1]
  show 0 + (g.val : Int) = (g'.val : Int) ∧ 20 + ((0 : Nat) : Int) = (l.val : Int) ↔ _
  omega

/-- The bias's scatter, its two index words zero, lands entry `k` at `(0, k)`. -/
theorem lands_bias (idx : IVec S2 32) (h : ∀ a, (idx a).toInt = 0) (k : Fin 20) (l : Fin 128) :
    scatter_S1x128_S2_S20_0_0_01_0.resultIdx? (ix1 k) idx = some (ix2 0 l) ↔ k.val = l.val := by
  have e0 : scatter_S1x128_S2_S20_0_0_01_0.start (ix1 k) idx 0 = 0 := h _
  have e1 : scatter_S1x128_S2_S20_0_0_01_0.start (ix1 k) idx 1 = 0 := h _
  have w0 : scatter_S1x128_S2_S20_0_0_01_0.window (ix1 k) 0 = 0 := rfl
  have w1 : scatter_S1x128_S2_S20_0_0_01_0.window (ix1 k) 1 = k.val := rfl
  rw [resultIdx?_eq_some, Fin.forall_fin_two, e0, e1, w0, w1]
  show 0 + ((0 : Nat) : Int) = ((0 : Nat) : Int) ∧ 0 + (k.val : Int) = (l.val : Int) ↔ _
  omega

/-! ### The padded operands at an index -/

/-- Column 20 of the padded weights is ones. -/
theorem weights_ones (c : Dev nD) (g : Fin 2048) :
    (V m c main_v5 : Vec F S2048x128 .f32) (ix2 g 20) = FloatOps.ofBits .f32 0x3F800000#32 := by
  rw [V_main_v5]
  exact scatter_set_hit _ _ _ _ _ _ (fun _ _ => rfl) (ix1 g) ((lands_ones _ (by decide) g g 20).2 ⟨rfl, rfl⟩)

/-- The first 20 columns of the padded weights are the weights. -/
theorem weights_at (c : Dev nD) (g : Fin 2048) (l : Fin 128) (k : Fin 20) (hl : l.val = k.val) :
    (V m c main_v5 : Vec F S2048x128 .f32) (ix2 g l) = (m ((c : Thread nD τ).loc main_arg2) : Vec F S2048x20 .f32) (ix2 g k) := by
  rw [V_main_v5, scatter_set_miss _ _ _ _ _ (fun j hj => by
    obtain ⟨a, rfl⟩ : ∃ a : Fin 2048, j = ix1 a := ⟨j 0, eq_ix1 j⟩
    rw [lands_ones _ (by decide)] at hj
    omega)]
  refine scatter_set_hit _ _ _ _ _ _ (fun j hj => ?_) (ix2 g k) ((lands_weights _ (by decide) g g k l).2 ⟨rfl, hl.symm⟩)
  obtain ⟨a, b, rfl⟩ : ∃ (a : Fin 2048) (b : Fin 20), j = ix2 a b := ⟨j 0, j 1, eq_ix2 j⟩
  rw [lands_weights _ (by decide)] at hj
  exact congrArg₂ (fun a b => (m ((c : Thread nD τ).loc main_arg2) : Vec F S2048x20 .f32) (ix2 a b)) (Fin.ext hj.1) (Fin.ext (hj.2.trans hl))

/-- The first 20 lanes of the padded bias are the bias. -/
theorem bias_at (c : Dev nD) (l : Fin 128) (k : Fin 20) (hl : l.val = k.val) :
    (V m c main_v10 : Vec F S1x128 .f32) (ix2 0 l) = (m ((c : Thread nD τ).loc main_arg3) : Vec F S20 .f32) (ix1 k) := by
  have hz : ∀ a, ((concatenate S2 0 [⟨S1, broadcastInDim S1 ![] bcast_S_S1 (constantI S_ 32 0#32)⟩,
        ⟨S1, broadcastInDim S1 ![] bcast_S_S1 (constantI S_ 32 0#32)⟩] concatenates_S1_S1_S2_d0 : IVec S2 32) a).toInt = 0 := by
    decide +kernel
  rw [V_main_v10]
  refine scatter_set_hit _ _ _ _ _ _ (fun j hj => ?_) (ix1 k) ((lands_bias _ hz k l).2 hl.symm)
  obtain ⟨a, rfl⟩ : ∃ a : Fin 20, j = ix1 a := ⟨j 0, eq_ix1 j⟩
  rw [lands_bias _ hz] at hj
  exact congrArg (fun a => (m ((c : Thread nD τ).loc main_arg3) : Vec F S20 .f32) (ix1 a)) (Fin.ext (hj.trans hl))

end Cert.KernelIdeal.FoldRun
-- ==== Proof.RowMath.lean ====
module

public import Idealize.ShloMosaic.Lib.IdealHost

/-! The extended-real arithmetic of one launch row: the log-ratio coordinates, the softmax over
    lanes padded from 21 to 128, and the sums of padded rows. No shapes and no memory here. -/

@[expose] public section

namespace Cert.Pseudobulk

open Idealize.ShloMosaic

/-! ### Literals -/

/-- The floor `1e-8` of the two normalisers. -/
noncomputable abbrev eps : EReal := Ideal.ofBits .f32 841731191#32

/-- The library scale `1e6`. -/
noncomputable abbrev scale : EReal := Ideal.ofBits .f32 1232348160#32

/-- The floor as a dyadic number. -/
theorem eps_eq : eps = (((11258999 : ℝ) * 2 ^ (-50 : ℤ) : ℝ) : EReal) := by
  simp [eps, Ideal.ofBits, Ideal.ieee, -EReal.coe_mul]

/-- The scale is a million. -/
theorem scale_eq : scale = ((1000000 : ℝ) : EReal) := by
  simp [scale, Ideal.ofBits, Ideal.ieee, -EReal.coe_mul]; norm_num

/-- The floor is positive. -/
theorem eps_pos : 0 < eps := by
  rw [eps_eq]; exact EReal.coe_pos.2 (by positivity)

/-- The scale is nonnegative. -/
theorem scale_nonneg : 0 ≤ scale := by
  rw [scale_eq]; exact EReal.coe_nonneg.2 (by norm_num)

/-- The scale is finite. -/
theorem scale_ne_top : scale ≠ ⊤ := by
  rw [scale_eq]; exact EReal.coe_ne_top _

/-- The word of negative infinity reads as the bottom. -/
theorem negInf_eq : Ideal.ofBits .f32 4286578688#32 = ⊥ := by
  simp [Ideal.ofBits, Ideal.ieee]

/-! ### Division and the exponential -/

/-- The exponential is never negative. -/
theorem exp_nonneg (x : EReal) : 0 ≤ Ideal.exp x := by
  induction x with
  | bot => exact le_refl _
  | top => exact le_top
  | coe r => exact EReal.coe_nonneg.2 (Real.exp_pos r).le

/-- Division off zero multiplies by the inverse. -/
theorem div_of_ne {x y : EReal} (h : y ≠ 0) : Ideal.div x y = x * y⁻¹ := by
  unfold Ideal.div; rw [if_neg h]

/-- Zero over a nonzero number is zero. -/
theorem zero_div_of_ne {y : EReal} (h : y ≠ 0) : Ideal.div 0 y = 0 := by
  rw [div_of_ne h, zero_mul]

/-- Zero over zero is the bottom. -/
theorem zero_div_zero : Ideal.div 0 0 = ⊥ := by
  unfold Ideal.div; simp

/-! ### Sums -/

/-- A nonnegative finite factor moves inside a finite sum. -/
theorem sum_mul_const {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

/-- A finite sum with one bottom term is the bottom. -/
theorem sum_eq_bot {ι : Type*} (s : Finset ι) (f : ι → EReal) {i : ι} (hi : i ∈ s) (h : f i = ⊥) :
    ∑ j ∈ s, f j = ⊥ := by
  classical
  rw [← Finset.add_sum_erase s f hi, h, EReal.bot_add]

/-- A sum over `a + b` lanes whose last `b` lanes are zero is the sum over the first `a`. -/
theorem sum_pad {a b : ℕ} (F : Fin (a + b) → EReal) (f : Fin a → EReal) (h : ∀ i, F (Fin.castAdd b i) = f i)
    (h0 : ∀ i, F (Fin.natAdd a i) = 0) : ∑ i, F i = ∑ i, f i := by
  rw [Fin.sum_univ_add]; simp [h, h0]

/-- The greatest of `a + b` lanes whose last `b` lanes are the bottom is the greatest of the first `a`. -/
theorem max_pad {a b : ℕ} (F : Fin (a + b) → EReal) (f : Fin a → EReal) (h : ∀ i, F (Fin.castAdd b i) = f i)
    (h0 : ∀ i, F (Fin.natAdd a i) = ⊥) : Finset.univ.fold max ⊥ F = Finset.univ.fold max ⊥ f := by
  apply le_antisymm
  · rw [Finset.fold_max_le]
    refine ⟨bot_le, fun i _ => ?_⟩
    refine Fin.addCases (fun j => ?_) (fun j => ?_) i
    · rw [h]; exact (Finset.le_fold_max _).2 (Or.inr ⟨j, Finset.mem_univ _, le_refl _⟩)
    · rw [h0]; exact bot_le
  · rw [Finset.fold_max_le]
    exact ⟨bot_le, fun j _ => (Finset.le_fold_max _).2 (Or.inr ⟨Fin.castAdd b j, Finset.mem_univ _, (h j).ge⟩)⟩

/-! ### The log-ratio coordinates -/

/-- Scaling the finished product by `scale / lib` is scaling each entry first, where `lib` is positive. -/
theorem scaled_dot {n : ℕ} (x w : Fin n → EReal) {lib : EReal} (hl : 0 < lib) :
    (∑ g, x g * w g) * Ideal.div scale lib = ∑ g, Ideal.div (x g) lib * scale * w g := by
  have hne : lib ≠ 0 := hl.ne'
  have hi0 : 0 ≤ lib⁻¹ := EReal.inv_nonneg_of_nonneg hl.le
  have hit : lib⁻¹ ≠ ⊤ := by
    induction lib with
    | bot => simp at hl
    | top => simp
    | coe r => rw [← EReal.coe_inv]; exact EReal.coe_ne_top _
  have hc0 : 0 ≤ scale * lib⁻¹ := mul_nonneg scale_nonneg hi0
  have hct : scale * lib⁻¹ ≠ ⊤ := by
    rw [EReal.mul_ne_top]
    refine ⟨Or.inl ?_, Or.inl scale_nonneg, Or.inl scale_ne_top, Or.inr hit⟩
    exact (lt_of_lt_of_le EReal.bot_lt_zero scale_nonneg).ne'
  rw [div_of_ne hne, sum_mul_const _ _ hc0 hct]
  refine Finset.sum_congr rfl fun g _ => ?_
  rw [div_of_ne hne]
  ac_rfl

/-! ### The softmax over padded lanes -/

/-- The softmax row: each entry's exponential below the greatest, over their sum. -/
noncomputable def softmax {n : ℕ} (f : Fin n → EReal) (j : Fin n) : EReal :=
  Ideal.div (Ideal.exp (f j - Finset.univ.fold max ⊥ f)) (∑ i, Ideal.exp (f i - Finset.univ.fold max ⊥ f))

/-- A row padded from `a` to `a + b` lanes: it agrees with the short row, and the further lanes are all
    zero unless the whole row is the bottom. -/
def Padded {a b : ℕ} (F : Fin (a + b) → EReal) (f : Fin a → EReal) : Prop :=
  (∀ i, F (Fin.castAdd b i) = f i) ∧ ((∀ i, F (Fin.natAdd a i) = 0) ∨ ∀ i, F i = ⊥)

/-- The softmax of a row whose further lanes are the bottom is the short softmax, padded. -/
theorem softmax_padded {a b : ℕ} (F : Fin (a + b) → EReal) (f : Fin a → EReal) (h : ∀ i, F (Fin.castAdd b i) = f i)
    (h0 : ∀ i, F (Fin.natAdd a i) = ⊥) : Padded (softmax F) (softmax f) := by
  have hm := max_pad F f h h0
  have hz : ∀ i, Ideal.exp (F (Fin.natAdd a i) - Finset.univ.fold max ⊥ F) = 0 := fun i => by
    rw [h0, sub_eq_add_neg, EReal.bot_add]; rfl
  have hs : ∑ i, Ideal.exp (F i - Finset.univ.fold max ⊥ F) = ∑ i, Ideal.exp (f i - Finset.univ.fold max ⊥ f) :=
    sum_pad _ _ (fun i => by rw [h, hm]) hz
  refine ⟨fun i => by unfold softmax; rw [hs, h, hm], ?_⟩
  by_cases h1 : ∑ i, Ideal.exp (F i - Finset.univ.fold max ⊥ F) = 0
  · right
    intro i
    have hi : Ideal.exp (F i - Finset.univ.fold max ⊥ F) = 0 :=
      (Finset.sum_eq_zero_iff_of_nonneg (fun j _ => exp_nonneg _)).1 h1 i (Finset.mem_univ _)
    unfold softmax; rw [h1, hi, zero_div_zero]
  · left
    intro i
    unfold softmax; rw [hz, zero_div_of_ne h1]

/-- The sum of padded rows over a finite family is padded. -/
theorem Padded.sum {a b : ℕ} {ι : Type*} (s : Finset ι) (F : ι → Fin (a + b) → EReal) (f : ι → Fin a → EReal)
    (h : ∀ n ∈ s, Padded (F n) (f n)) : Padded (fun i => ∑ n ∈ s, F n i) (fun i => ∑ n ∈ s, f n i) := by
  refine ⟨fun i => Finset.sum_congr rfl fun n hn => (h n hn).1 i, ?_⟩
  by_cases hb : ∃ n ∈ s, ∀ i, F n i = ⊥
  · obtain ⟨n, hn, hi⟩ := hb
    exact Or.inr fun i => sum_eq_bot s _ hn (hi i)
  · left
    intro i
    refine Finset.sum_eq_zero fun n hn => ?_
    rcases (h n hn).2 with h0 | h1
    · exact h0 i
    · exact absurd ⟨n, hn, h1⟩ hb

/-- A padded row sums to what the short row sums to. -/
theorem Padded.sum_lanes {a b : ℕ} {F : Fin (a + b) → EReal} {f : Fin a → EReal} (h : Padded F f) (ha : 0 < a) :
    ∑ i, F i = ∑ i, f i := by
  rcases h.2 with h0 | h1
  · exact sum_pad F f h.1 h0
  · rw [sum_eq_bot _ _ (Finset.mem_univ (Fin.castAdd b ⟨0, ha⟩)) (h1 _),
      sum_eq_bot _ _ (Finset.mem_univ (⟨0, ha⟩ : Fin a)) (by rw [← h.1]; exact h1 _)]

/-- Normalising a padded row by its floored sum normalises the short row. -/
theorem Padded.normalised {a b : ℕ} {F : Fin (a + b) → EReal} {f : Fin a → EReal} (h : Padded F f) (i : Fin a) :
    Ideal.div (F (Fin.castAdd b i)) (max (∑ j, F j) eps) = Ideal.div (f i) (max (∑ j, f j) eps) := by
  rw [h.1, h.sum_lanes (lt_of_le_of_lt (Nat.zero_le _) i.2)]

end Cert.Pseudobulk
-- ==== Proof.RowSpec.lean ====
/-
  One row's mathematics, over plain families of extended reals: the log-ratio coordinates and the logits as the
  problem states them, the same over operands padded to 128 lanes, and the agreement of the two.
-/
module

public import proofs.«01_k».proof.Proof.RowMath

@[expose] public section

namespace Cert.Pseudobulk

open Idealize.ShloMosaic

/-- The log-ratio coordinate `k` of a row `x`: the row scaled by its floored sum to a million, against the
    weights' column `k`, plus the bias. -/
noncomputable def ilr (x : Fin 2048 → EReal) (W : Fin 2048 → Fin 20 → EReal) (b : Fin 20 → EReal) (k : Fin 20) : EReal :=
  (∑ g, Ideal.div (x g) (max (∑ g, x g) eps) * scale * W g k) + b k

/-- The logit of cell type `j`. -/
noncomputable def logit (x : Fin 2048 → EReal) (W : Fin 2048 → Fin 20 → EReal) (b : Fin 20 → EReal)
    (V : Fin 20 → Fin 21 → EReal) (j : Fin 21) : EReal :=
  ∑ k, ilr x W b k * V k j

/-- The coordinate over padded weights, the row's sum read in lane 20 and the scale applied to the product. -/
noncomputable def ilrPad (x : Fin 2048 → EReal) (Wp : Fin 2048 → Fin 128 → EReal) (bp : Fin 128 → EReal) (k : Fin 128) : EReal :=
  (∑ g, x g * Wp g k) * Ideal.div scale (max (∑ g, x g * Wp g 20) eps) + bp k

/-- The logit over padded operands, the lanes that `pb` marks masked to the bottom. -/
noncomputable def logitPad (x : Fin 2048 → EReal) (Wp : Fin 2048 → Fin 128 → EReal) (bp : Fin 128 → EReal)
    (Vp : Fin 128 → Fin 128 → EReal) (pb : Fin 128 → EReal) (l : Fin 128) : EReal :=
  (∑ k, ilrPad x Wp bp k * Vp k l) + if 0 < pb l then ⊥ else 0

/-- The padded logit depends on its operands entry by entry. -/
theorem logitPad_congr {x x' : Fin 2048 → EReal} {Wp Wp' : Fin 2048 → Fin 128 → EReal} {bp bp' : Fin 128 → EReal}
    {Vp Vp' : Fin 128 → Fin 128 → EReal} {pb pb' : Fin 128 → EReal} (hx : ∀ g, x g = x' g) (hW : ∀ g k, Wp g k = Wp' g k)
    (hb : ∀ k, bp k = bp' k) (hV : ∀ k l, Vp k l = Vp' k l) (hp : ∀ l, pb l = pb' l) :
    logitPad x Wp bp Vp pb = logitPad x' Wp' bp' Vp' pb' := by
  obtain rfl : x = x' := funext hx
  obtain rfl : Wp = Wp' := funext fun g => funext (hW g)
  obtain rfl : bp = bp' := funext hb
  obtain rfl : Vp = Vp' := funext fun k => funext (hV k)
  obtain rfl : pb = pb' := funext hp
  rfl

/-- In the first 20 lanes the padded coordinate is the plain one. -/
theorem ilrPad_eq (x : Fin 2048 → EReal) (W : Fin 2048 → Fin 20 → EReal) (b : Fin 20 → EReal)
    (Wp : Fin 2048 → Fin 128 → EReal) (bp : Fin 128 → EReal) (k : Fin 20) (l : Fin 128)
    (hW : ∀ g, Wp g l = W g k) (h1 : ∀ g, Wp g 20 = 1) (hb : bp l = b k) :
    ilrPad x Wp bp l = ilr x W b k := by
  have hs : ∑ g, x g * Wp g 20 = ∑ g, x g := Finset.sum_congr rfl fun g _ => by rw [h1, mul_one]
  have hd : ∑ g, x g * Wp g l = ∑ g, x g * W g k := Finset.sum_congr rfl fun g _ => by rw [hW]
  unfold ilrPad ilr
  rw [hs, hd, hb, scaled_dot x (fun g => W g k) (lt_of_lt_of_le eps_pos (le_max_right _ _))]

/-- What the padded operands hold, beside the plain ones. -/
structure PaddedOperands (W : Fin 2048 → Fin 20 → EReal) (b : Fin 20 → EReal) (V : Fin 20 → Fin 21 → EReal)
    (Wp : Fin 2048 → Fin 128 → EReal) (bp : Fin 128 → EReal) (Vp : Fin 128 → Fin 128 → EReal) (pb : Fin 128 → EReal) : Prop where
  /-- the weights in the first 20 columns -/
  weights : ∀ g (k : Fin 20), Wp g (Fin.castAdd 108 k) = W g k
  /-- ones in column 20 -/
  ones : ∀ g, Wp g 20 = 1
  /-- the bias in the first 20 lanes -/
  bias : ∀ k : Fin 20, bp (Fin.castAdd 108 k) = b k
  /-- the transform in the leading corner -/
  corner : ∀ (k : Fin 20) (j : Fin 21), Vp (Fin.castAdd 108 k) (Fin.castAdd 107 j) = V k j
  /-- zero rows below it -/
  rows : ∀ (k : Fin 108) l, Vp (Fin.natAdd 20 k) l = 0
  /-- zero columns beside it -/
  columns : ∀ k (j : Fin 107), Vp k (Fin.natAdd 21 j) = 0
  /-- the first 21 lanes unmarked -/
  low : ∀ j : Fin 21, pb (Fin.castAdd 107 j) = 0
  /-- the other lanes marked -/
  high : ∀ j : Fin 107, pb (Fin.natAdd 21 j) = 1

/-- In the first 21 lanes the padded logit is the plain one. -/
theorem logitPad_low {W b V Wp bp Vp pb} (h : PaddedOperands W b V Wp bp Vp pb) (x : Fin 2048 → EReal) (j : Fin 21) :
    logitPad x Wp bp Vp pb (Fin.castAdd 107 j) = logit x W b V j := by
  unfold logitPad logit
  rw [h.low, if_neg (lt_irrefl _), add_zero]
  refine sum_pad (a := 20) (b := 108) _ _ (fun k => ?_) fun k => by rw [h.rows, mul_zero]
  rw [h.corner, ilrPad_eq x W b Wp bp k _ (fun g => h.weights g k) h.ones (h.bias k)]

/-- In the other lanes it is the bottom. -/
theorem logitPad_high {W b V Wp bp Vp pb} (h : PaddedOperands W b V Wp bp Vp pb) (x : Fin 2048 → EReal) (j : Fin 107) :
    logitPad x Wp bp Vp pb (Fin.natAdd 21 j) = ⊥ := by
  unfold logitPad
  rw [h.high, if_pos zero_lt_one, EReal.add_bot]

/-- The softmax of the padded logits is the softmax of the logits, padded. -/
theorem weights_padded {W b V Wp bp Vp pb} (h : PaddedOperands W b V Wp bp Vp pb) (x : Fin 2048 → EReal) :
    Padded (a := 21) (b := 107) (softmax (logitPad x Wp bp Vp pb)) (softmax (logit x W b V)) :=
  softmax_padded (a := 21) (b := 107) _ _ (logitPad_low h x) (logitPad_high h x)

/-- The pseudobulk fraction of segment `g` and cell type `j`: the softmax rows of the segment's cells added and
    normalised by their floored total. `seg n` says that cell `n` lies in the segment. -/
noncomputable def fraction {ι : Type*} [Fintype ι] (y : ι → Fin 21 → EReal) (seg : ι → Prop) [DecidablePred seg] (j : Fin 21) : EReal :=
  Ideal.div (∑ n with seg n, y n j) (max (∑ i, ∑ n with seg n, y n i) eps)

/-- The same over padded rows. -/
noncomputable def fractionPad {ι : Type*} [Fintype ι] (Y : ι → Fin 128 → EReal) (seg : ι → Prop) [DecidablePred seg] (l : Fin 128) : EReal :=
  Ideal.div (∑ n with seg n, Y n l) (max (∑ i, ∑ n with seg n, Y n i) eps)

/-- Padding the rows leaves the fractions of the cell types. -/
theorem fractionPad_eq {ι : Type*} [Fintype ι] (Y : ι → Fin 128 → EReal) (y : ι → Fin 21 → EReal) (seg : ι → Prop) [DecidablePred seg]
    (h : ∀ n, Padded (a := 21) (b := 107) (Y n) (y n)) (j : Fin 21) :
    fractionPad Y seg (Fin.castAdd 107 j) = fraction y seg j :=
  (Padded.sum (a := 21) (b := 107) (Finset.univ.filter seg) Y y fun n _ => h n).normalised j

end Cert.Pseudobulk
-- ==== Proof.BlockValue.lean ====
/-
  One grid point's arithmetic at the ideal values, read at an index: the exponentials and their row sums are the
  padded softmax of the block's rows, and the point adds to each segment the softmax rows of its cells.
-/
module

public import proofs.«01_k».proof.Proof.KernelRun
public import proofs.«01_k».proof.Proof.RowSpec
public import Idealize.ShloMosaic.Lib.Pointwise

@[expose] public section

set_option maxRecDepth 16384

noncomputable section

namespace Cert.KernelIdeal.FoldRun

open Cert.KernelIdeal Cert.KernelIdeal.Gen Cert.Pseudobulk Idealize.ShloMosaic Idealize.ShloMosaic.TcCoe Idealize.SL.Sem

/-- The padded logits of row `r` of a block. -/
abbrev rowLogit (x0 : Vec Ideal S2048x2048 .f32) (x2 : Vec Ideal S2048x128 .f32) (x3 : Vec Ideal S128x128 .f32)
    (x4 : Vec Ideal S1x128 .f32) (x5 : Vec Ideal S1x128 .f32) (r : Fin 2048) : Fin 128 → EReal :=
  logitPad (fun k => x0 (ix2 r k)) (fun g k => x2 (ix2 g k)) (fun k => x4 (ix2 0 k)) (fun k l => x3 (ix2 k l)) (fun l => x5 (ix2 0 l))

/-- The exponentials of a block: each lane's logit below the row's greatest. -/
theorem exps_at (x0 : Vec Ideal S2048x2048 .f32) (x2 : Vec Ideal S2048x128 .f32) (x3 : Vec Ideal S128x128 .f32)
    (x4 : Vec Ideal S1x128 .f32) (x5 : Vec Ideal S1x128 .f32) (r : Fin 2048) (l : Fin 128) :
    k0_pay4 x0 x2 x4 x3 x5 (ix2 r l)
      = Ideal.exp (rowLogit x0 x2 x3 x4 x5 r l - Finset.univ.fold max ⊥ (rowLogit x0 x2 x3 x4 x5 r)) := by
  unfold k0_pay4
  pointwise
  have hm : (Named.named κ "mask" 4048155338#32 : Ideal .f32) = (⊥ : EReal) := by simp [Named.named, κ]
  rw [hm, negInf_eq]
  rfl

/-- The row sums of a block's exponentials. -/
theorem sums_at (x0 : Vec Ideal S2048x2048 .f32) (x2 : Vec Ideal S2048x128 .f32) (x3 : Vec Ideal S128x128 .f32)
    (x4 : Vec Ideal S1x128 .f32) (x5 : Vec Ideal S1x128 .f32) (r : Fin 2048) :
    k0_pay5 x0 x2 x4 x3 x5 (ix1 r) = ∑ l : Fin 128, k0_pay4 x0 x2 x4 x3 x5 (ix2 r l) := by
  unfold k0_pay5 k0_pay4
  pointwise

/-- A segment label compared with a segment, as a number: one where they agree, else zero. -/
theorem oneHot_eq (g : Fin 256) (w : BitVec 32) :
    (FloatOps.sitofp FTy.f32 (BitVec.setWidth 32 (IntOp.cmpi CmpIPredicate.eq (BitVec.ofNat 32 g.val) w)) : Ideal .f32)
      = if w.toInt = (g.val : Int) then (1 : EReal) else 0 := by
  have hg : (BitVec.ofNat 32 g.val).toInt = (g.val : Int) := by
    have h1 : (BitVec.ofNat 32 g.val).toNat = g.val := by rw [BitVec.toNat_ofNat]; omega
    rw [BitVec.toInt_eq_toNat_of_lt (by omega), h1]
  have key : BitVec.ofNat 32 g.val = w ↔ w.toInt = (g.val : Int) := by
    rw [← hg]; exact ⟨fun h => by rw [h], fun h => (BitVec.eq_of_toInt_eq h).symm⟩
  by_cases h : w.toInt = (g.val : Int)
  · rw [if_pos h, ← key.2 h]
    simp [IntOp.cmpi, FloatOps.sitofp]
  · have hne : ¬ BitVec.ofNat 32 g.val = w := fun e => h (key.1 e)
    rw [if_neg h]
    have hb : (BitVec.ofNat 32 g.val == w) = false := beq_eq_false_iff_ne.2 hne
    simp [IntOp.cmpi, FloatOps.sitofp, hb]

/-- What a point adds to an entry of the accumulator: the softmax rows of the block's cells in the segment. -/
theorem addBlock_at (x0 : Vec Ideal S2048x2048 .f32) (x1 : Vec Ideal S1x1x2048 .i32) (x2 : Vec Ideal S2048x128 .f32)
    (x3 : Vec Ideal S128x128 .f32) (x4 : Vec Ideal S1x128 .f32) (x5 : Vec Ideal S1x128 .f32) (acc : Vec Ideal S256x128 .f32)
    (g : Fin 256) (l : Fin 128) :
    addBlock x0 x1 x2 x3 x4 x5 acc (ix2 g l) = (acc (ix2 g l) : EReal)
      + ∑ r : Fin 2048, if (x1 (ix3 0 0 r)).toInt = (g.val : Int) then softmax (rowLogit x0 x2 x3 x4 x5 r) l else 0 := by
  have h : ∀ (e : Vec Ideal S2048x128 .f32) (s : Vec Ideal S2048 .f32), k0_pay1 e s x1 acc (ix2 g l)
      = (acc (ix2 g l) : EReal) + ∑ r : Fin 2048, (FloatOps.sitofp FTy.f32 (BitVec.setWidth 32 (IntOp.cmpi CmpIPredicate.eq (BitVec.ofNat 32 g.val) (x1 (ix3 0 0 r)))) : Ideal .f32)
          * Ideal.div (e (ix2 r l)) (s (ix1 r)) := by
    intro e s
    unfold k0_pay1
    pointwise
  refine (h _ _).trans (congrArg _ (Finset.sum_congr rfl fun r _ => ?_))
  rw [oneHot_eq, sums_at, exps_at]
  simp only [exps_at]
  split_ifs
  · rw [one_mul]; rfl
  · rw [zero_mul]

/-- The final quotient at an entry. -/
theorem quotient_at (y : Vec Ideal S256x128 .f32) (g : Fin 256) (l : Fin 128) :
    k0_pay2 y (ix2 g l) = Ideal.div (y (ix2 g l)) (max (∑ l : Fin 128, y (ix2 g l)) eps) := by
  unfold k0_pay2
  pointwise

end Cert.KernelIdeal.FoldRun
-- ==== Proof.Tables.lean ====
/-
  The two literal tables of the kernel against the reference's: the padded transform holds the transform in its
  leading 20 rows and 21 columns and zero words elsewhere; the marking row holds zero words in its first 21
  lanes and the word of one after.
-/
module

public import proofs.«01_k».proof.KernelIdeal
public import proofs.«01_k».proof.ReferenceIdeal

@[expose] public section

set_option maxRecDepth 16384

namespace Cert.Pseudobulk

/-- The leading 20 by 21 corner of the padded transform is the transform, word for word. -/
theorem table_corner : ∀ (k : Fin 20) (j : Fin 21),
    Cert.KernelIdeal.lit0 ⟨k.val * 128 + j.val, by omega⟩ = Cert.ReferenceIdeal.lit0 ⟨k.val * 21 + j.val, by omega⟩ := by
  decide +kernel

/-- The rows of the padded transform past the twentieth are zero words. -/
theorem table_rows : ∀ (k : Fin 108) (l : Fin 128), Cert.KernelIdeal.lit0 ⟨(k.val + 20) * 128 + l.val, by omega⟩ = 0#32 := by
  decide +kernel

/-- The columns of the padded transform past the twenty-first are zero words. -/
theorem table_columns : ∀ (k : Fin 128) (j : Fin 107), Cert.KernelIdeal.lit0 ⟨k.val * 128 + (j.val + 21), by omega⟩ = 0#32 := by
  decide +kernel

/-- The first 21 lanes of the marking row are zero words. -/
theorem marks_low : ∀ j : Fin 21, Cert.KernelIdeal.lit1 ⟨j.val, by omega⟩ = 0#32 := by
  decide +kernel

/-- The lanes of the marking row past the twenty-first are the word of one. -/
theorem marks_high : ∀ j : Fin 107, Cert.KernelIdeal.lit1 ⟨j.val + 21, by omega⟩ = 0x3F800000#32 := by
  decide +kernel

end Cert.Pseudobulk
-- ==== Proof.KernelValue.lean ====
/-
  What the kernel returns at the ideal values, entry by entry: the fraction of each cell type among the softmax
  rows of a segment's cells, over the launch's own arguments.
-/
module

public import proofs.«01_k».proof.Proof.HostOperands
public import proofs.«01_k».proof.Proof.BlockValue
public import proofs.«01_k».proof.Proof.Tables

@[expose] public section

set_option maxRecDepth 16384

noncomputable section

namespace Cert.Pseudobulk

open Idealize.ShloMosaic

/-- The transform's entry `(k, j)`, read from the reference's table. -/
abbrev transform (k : Fin 20) (j : Fin 21) : EReal :=
  Ideal.ofBits .f32 (Cert.ReferenceIdeal.lit0 ⟨k.val * 21 + j.val, by omega⟩)

end Cert.Pseudobulk

namespace Cert.KernelIdeal.FoldRun

open Cert.KernelIdeal Cert.KernelIdeal.Gen Cert.Pseudobulk Idealize.ShloMosaic Idealize.ShloMosaic.TcCoe Idealize.SL.Sem

variable (m : (ℓ : Loc nD τ sig) → Buf (Elt Ideal) ℓ) (c : Dev nD)

/-- The counts of cell `n`. -/
abbrev counts (n : Fin 65536) (k : Fin 2048) : EReal := (m ((c : Thread nD τ).loc main_arg0) : Vec Ideal S65536x2048 .f32) (ix2 n k)
/-- Whether cell `n` lies in segment `g`: its label, read signed, is `g`. -/
abbrev inSegment (g : Fin 256) (n : Fin 65536) : Prop :=
  ((m ((c : Thread nD τ).loc main_arg1) : Vec Ideal S65536 .i32) (ix1 n) : BitVec 32).toInt = (g.val : Int)
/-- The weights. -/
abbrev weight (g : Fin 2048) (k : Fin 20) : EReal := (m ((c : Thread nD τ).loc main_arg2) : Vec Ideal S2048x20 .f32) (ix2 g k)
/-- The bias. -/
abbrev bias (k : Fin 20) : EReal := (m ((c : Thread nD τ).loc main_arg3) : Vec Ideal S20 .f32) (ix1 k)

/-- The padded weights the region finds. -/
abbrev weightPad (g : Fin 2048) (k : Fin 128) : EReal := (V m c main_v5 : Vec Ideal S2048x128 .f32) (ix2 g k)
/-- The padded bias the region finds. -/
abbrev biasPad (k : Fin 128) : EReal := (V m c main_v10 : Vec Ideal S1x128 .f32) (ix2 0 k)
/-- The padded transform the region finds. -/
abbrev transformPad (k l : Fin 128) : EReal := (V m c main_cst : Vec Ideal S128x128 .f32) (ix2 k l)
/-- The marking row the region finds. -/
abbrev mark (l : Fin 128) : EReal := (V m c main_cst_0 : Vec Ideal S1x128 .f32) (ix2 0 l)

/-- An entry of the padded transform is its word in the table. -/
theorem transformPad_eq (k l : Fin 128) : transformPad m c k l = Ideal.ofBits .f32 (lit0 ⟨k.val * 128 + l.val, by omega⟩) := by
  unfold transformPad
  rw [V_main_cst]
  show Ideal.ofBits .f32 (lit0 (S128x128.rowMajor (ix2 k l))) = _
  congr 2
  exact Fin.ext (Shape.rowMajor_val_two (ix2 k l))

/-- An entry of the marking row is its word in the table. -/
theorem mark_eq (l : Fin 128) : mark m c l = Ideal.ofBits .f32 (lit1 l) := by
  unfold mark
  rw [V_main_cst_0]
  show Ideal.ofBits .f32 (lit1 (S1x128.rowMajor (ix2 0 l))) = _
  congr 2
  refine Fin.ext ((Shape.rowMajor_val_two (ix2 0 l)).trans ?_)
  show 0 * 128 + l.val = l.val
  omega

/-- The region's padded operands are the launch's arguments and the transform, padded. -/
theorem operands_padded : PaddedOperands (weight m c) (bias m c) transform (weightPad m c) (biasPad m c) (transformPad m c) (mark m c) where
  weights g k := weights_at m c g _ k rfl
  ones g := (weights_ones m c g).trans Ideal.ofBits_one_f32
  bias k := bias_at m c _ k rfl
  corner k j := (transformPad_eq m c _ _).trans (congrArg (Ideal.ofBits .f32) (table_corner k j))
  rows k l := by
    refine (transformPad_eq m c _ _).trans ((congrArg (Ideal.ofBits .f32) ?_).trans Ideal.ofBits_zero_f32)
    refine Eq.trans (congrArg lit0 (Fin.ext ?_)) (table_rows k l)
    show (20 + k.val) * 128 + l.val = (k.val + 20) * 128 + l.val
    omega
  columns k j := by
    refine (transformPad_eq m c _ _).trans ((congrArg (Ideal.ofBits .f32) ?_).trans Ideal.ofBits_zero_f32)
    refine Eq.trans (congrArg lit0 (Fin.ext ?_)) (table_columns k j)
    show k.val * 128 + (21 + j.val) = k.val * 128 + (j.val + 21)
    omega
  low j := (mark_eq m c _).trans ((congrArg (Ideal.ofBits .f32) (marks_low j)).trans Ideal.ofBits_zero_f32)
  high j := by
    refine (mark_eq m c _).trans ((congrArg (Ideal.ofBits .f32) ?_).trans Ideal.ofBits_one_f32)
    refine Eq.trans (congrArg lit1 (Fin.ext ?_)) (marks_high j)
    show 21 + j.val = j.val + 21
    omega

/-- The padded softmax row of cell `n`. -/
abbrev rowPad (n : Fin 65536) : Fin 128 → EReal :=
  softmax (logitPad (counts m c n) (weightPad m c) (biasPad m c) (transformPad m c) (mark m c))

/-- Cell `r` of block `t`. -/
abbrev cell (t : Fin cfg0.N) (r : Fin 2048) : Fin 65536 := ⟨t.val * 2048 + r.val, by have : t.val < 32 := t.isLt; omega⟩

/-- What block `t` adds to entry `(g, l)`. -/
abbrev blockSum (g : Fin 256) (l : Fin 128) (t : Fin cfg0.N) : EReal :=
  ∑ r : Fin 2048, if inSegment m c g (cell t r) then rowPad m c (cell t r) l else 0

/-- The padded logits of a block's row are those of its cell. -/
theorem rowLogit_eq (t : Fin cfg0.N) (r : Fin 2048) :
    rowLogit (iblk m c 0 t) (iblk m c 2 t) (iblk m c 3 t) (iblk m c 4 t) (iblk m c 5 t) r
      = logitPad (counts m c (cell t r)) (weightPad m c) (biasPad m c) (transformPad m c) (mark m c) :=
  logitPad_congr (fun k => block_0 m c t r k (cell t r) rfl) (fun g k => block_2 m c t g k) (fun k => block_4 m c t k)
    (fun k l => block_3 m c t k l) (fun l => block_5 m c t l)

/-- A point adds its block's cells to the accumulator. -/
theorem pointStep_at (t : Fin cfg0.N) (acc : Vec Ideal S256x128 .f32) (g : Fin 256) (l : Fin 128) :
    pointStep m c t acc (ix2 g l) = (acc (ix2 g l) : EReal) + blockSum m c g l t := by
  refine (addBlock_at _ _ _ _ _ _ acc g l).trans (congrArg _ (Finset.sum_congr rfl fun r _ => ?_))
  rw [rowLogit_eq]
  exact if_congr (Eq.congr (congrArg BitVec.toInt (block_1 m c t r (cell t r) rfl)) rfl) rfl rfl

/-- The accumulator after `n + 1` points holds the first `n + 1` blocks' sums. -/
theorem totals_at (g : Fin 256) (l : Fin 128) : ∀ (n : ℕ) (h : n < cfg0.N),
    (totals m c n h (ix2 g l) : EReal) = ∑ t ∈ Finset.range (n + 1), if ht : t < cfg0.N then blockSum m c g l ⟨t, ht⟩ else 0
  | 0, h => by
    refine (pointStep_at m c ⟨0, h⟩ (k0_pay3 (F := Ideal)) g l).trans ?_
    have hz : (k0_pay3 (F := Ideal) (ix2 g l) : EReal) = 0 := by
      unfold k0_pay3
      pointwise
    rw [hz, zero_add, Finset.sum_range_one, dif_pos h]
  | n + 1, h => by
    refine (pointStep_at m c ⟨n + 1, h⟩ _ g l).trans ?_
    rw [totals_at g l n (Nat.lt_of_succ_lt h), Finset.sum_range_succ _ (n + 1), dif_pos h]

/-- All blocks' sums are the sum over the segment's cells. -/
theorem blocks_eq (f : Fin 65536 → EReal) :
    (∑ t ∈ Finset.range 32, if ht : t < cfg0.N then ∑ r : Fin 2048, f (cell ⟨t, ht⟩ r) else 0) = ∑ n, f n := by
  rw [Finset.sum_range, ← Equiv.sum_comp (finProdFinEquiv (m := 32) (n := 2048)) f, Fintype.sum_prod_type]
  refine Finset.sum_congr rfl fun t _ => ?_
  rw [dif_pos (show t.val < cfg0.N from t.isLt)]
  refine Finset.sum_congr rfl fun r _ => congrArg f (Fin.ext ?_)
  show t.val * 2048 + r.val = r.val + 2048 * t.val
  omega

/-- The final accumulator at an entry. -/
theorem total_at (g : Fin 256) (l : Fin 128) :
    (totals m c 31 last_lt (ix2 g l) : EReal) = ∑ n with inSegment m c g n, rowPad m c n l := by
  rw [totals_at, Finset.sum_filter]
  exact blocks_eq fun n => if inSegment m c g n then rowPad m c n l else 0

/-- **What the kernel returns**: at segment `g` and cell type `j`, the fraction over the launch's arguments. -/
theorem result_at (g : Fin 256) (j : Fin 21) :
    (result m c (ix2 g j) : EReal)
      = fraction (fun n => softmax (logit (counts m c n) (weight m c) (bias m c) transform)) (inSegment m c g) j := by
  have h : (result m c (ix2 g j) : EReal) = outArr m c (ix2 g (Fin.castAdd 107 j)) := by
    unfold result
    generalize outArr m c = o
    pointwise
    rfl
  rw [h]
  unfold outArr
  rw [quotient_at]
  simp only [total_at]
  exact fractionPad_eq (rowPad m c) _ (inSegment m c g) (fun n => weights_padded (operands_padded m c) (counts m c n)) j

end Cert.KernelIdeal.FoldRun
-- ==== Proof.RefValue.lean ====
/-
  What the reference returns at the ideal values, entry by entry: the fraction of each cell type among the softmax
  rows of a segment's cells, over the launch's arguments.
-/
module

public import proofs.«01_k».proof.Proof.Gen.ReferenceIdeal.Run
public import proofs.«01_k».proof.Proof.RowSpec
public import Idealize.ShloMosaic.Lib.Pointwise
public import Idealize.ShloMosaic.Lib.Routing.OpsPair

@[expose] public section

set_option maxRecDepth 16384

noncomputable section

namespace Cert.ReferenceIdeal.RowValue

open Cert.ReferenceIdeal Cert.ReferenceIdeal.Gen Cert.Pseudobulk Idealize.ShloMosaic Idealize.ShloMosaic.TcCoe Idealize.SL.Sem
open Idealize.ShloMosaic.Routing (resultIdx?_eq_some)

/-! ### The program's term in stages -/

/-- The logits of every cell, through a transform `V`. -/
def logits (x : Vec Ideal S65536x2048 .f32) (W : Vec Ideal S2048x20 .f32) (b : Vec Ideal S20 .f32) (V : Vec Ideal S20x21 .f32) : Vec Ideal S65536x21 .f32 :=
  Host.dotGeneral (F := Ideal) (φ₁ := .f32) (φ₂ := .f32) dot_S65536x20_S20x21_S65536x21_1_0_0_1_n_n none
    (addf (Host.dotGeneral (F := Ideal) (φ₁ := .f32) (φ₂ := .f32) dot_S65536x2048_S2048x20_S65536x20_1_0_0_1_n_n none
      (mulf (Host.divf x (broadcastInDim S65536x2048 ![0, 1] bcast_S65536x1_S65536x2048_0_1
          (maximumf (broadcastInDim S65536x1 ![0] bcast_S65536_S65536x1_0 (Host.reduceAdd x (constant S_ .f32 0x00000000#32) reducesTo_S65536x2048_S65536_d1 h_S_))
            (broadcastInDim S65536x1 ![] bcast_S_S65536x1 (constant S_ .f32 0x322BCC77#32)))))
        (broadcastInDim S65536x2048 ![] bcast_S_S65536x2048 (constant S_ .f32 0x49742400#32))) W)
      (broadcastInDim S65536x20 ![0, 1] bcast_S1x20_S65536x20_0_1 (broadcastInDim S1x20 ![1] bcast_S20_S1x20_1 b))) V

/-- The exponentials of the logits below each row's greatest. -/
def exps (L : Vec Ideal S65536x21 .f32) : Vec Ideal S65536x21 .f32 :=
  Host.exp (F := Ideal) (subf L (broadcastInDim S65536x21 ![0, 1] bcast_S65536x1_S65536x21_0_1 (broadcastInDim S65536x1 ![0] bcast_S65536_S65536x1_0
    (maximumf (broadcastInDim S65536 ![] bcast_S_S65536 (constant S_ .f32 0xFF800000#32))
      (Host.reduce FloatOps.maximumf L (constant S_ .f32 0xFF800000#32) reducesTo_S65536x21_S65536_d1 h_S_)))))

/-- Each row over its sum. -/
def rowQuotient (e : Vec Ideal S65536x21 .f32) : Vec Ideal S65536x21 .f32 :=
  Host.divf (F := Ideal) e (broadcastInDim S65536x21 ![0, 1] bcast_S65536x1_S65536x21_0_1 (broadcastInDim S65536x1 ![0] bcast_S65536_S65536x1_0
    (Host.reduceAdd e (constant S_ .f32 0x00000000#32) reducesTo_S65536x21_S65536_d1 h_S_)))

/-- The rows added by segment. -/
def totals (s : Vec Ideal S65536 .i32) (y : Vec Ideal S65536x21 .f32) : Vec Ideal S256x21 .f32 :=
  Host.scatterAdd (F := Ideal) scatter_S256x21_S65536x1_S65536x21_1_0_0_1 (broadcastInDim S256x21 ![] bcast_S_S256x21 (constant S_ .f32 0x00000000#32))
    (broadcastInDim S65536x1 ![0] bcast_S65536_S65536x1_0 s) y

/-- Each segment over its floored total. -/
def quotient (T : Vec Ideal S256x21 .f32) : Vec Ideal S256x21 .f32 :=
  Host.divf (F := Ideal) T (broadcastInDim S256x21 ![0, 1] bcast_S256x1_S256x21_0_1
    (maximumf (broadcastInDim S256x1 ![0] bcast_S256_S256x1_0 (Host.reduceAdd T (constant S_ .f32 0x00000000#32) reducesTo_S256x21_S256_d1 h_S_))
      (broadcastInDim S256x1 ![] bcast_S_S256x1 (constant S_ .f32 0x322BCC77#32))))

/-- The program's result is its stages composed. -/
theorem result_stages (m : (ℓ : Loc nD τ sig) → Buf (Elt Ideal) ℓ) (c : Dev nD) :
    Value.res_out0 m c = quotient (totals (m ((c : Thread nD τ).loc main_arg1)) (rowQuotient (exps
      (logits (m ((c : Thread nD τ).loc main_arg0)) (m ((c : Thread nD τ).loc main_arg2)) (m ((c : Thread nD τ).loc main_arg3))
        (fun i => FloatOps.ofBits (F := Ideal) .f32 (lit0 (S20x21.rowMajor i))))))) := by
  unfold Value.res_out0 Value.res_main_v32 quotient totals rowQuotient exps logits
  rfl

/-! ### Each stage at an index -/

/-- The transform's entry `(k, j)`. -/
abbrev transform (k : Fin 20) (j : Fin 21) : EReal := Ideal.ofBits .f32 (lit0 ⟨k.val * 21 + j.val, by omega⟩)

/-- The transform's entry is its word in the table. -/
theorem transform_at (k : Fin 20) (j : Fin 21) :
    (FloatOps.ofBits .f32 (lit0 (S20x21.rowMajor (ix2 k j))) : Ideal .f32) = transform k j := by
  show Ideal.ofBits .f32 (lit0 _) = Ideal.ofBits .f32 (lit0 _)
  congr 2
  exact Fin.ext (Shape.rowMajor_val_two (ix2 k j))

/-- A cell's logits are the row mathematics over its counts. -/
theorem logits_at (x : Vec Ideal S65536x2048 .f32) (W : Vec Ideal S2048x20 .f32) (b : Vec Ideal S20 .f32) (V : Vec Ideal S20x21 .f32)
    (n : Fin 65536) (j : Fin 21) :
    logits x W b V (ix2 n j) = logit (fun k => x (ix2 n k)) (fun g k => W (ix2 g k)) (fun k => b (ix1 k)) (fun k j => V (ix2 k j)) j := by
  unfold logits
  pointwise
  rfl

/-- A cell's exponentials. -/
theorem exps_at (L : Vec Ideal S65536x21 .f32) (n : Fin 65536) (j : Fin 21) :
    exps L (ix2 n j) = Ideal.exp (L (ix2 n j) - Finset.univ.fold max ⊥ fun i : Fin 21 => (L (ix2 n i) : EReal)) := by
  unfold exps
  pointwise
  rw [negInf_eq]
  simp

/-- A cell's quotients. -/
theorem rowQuotient_at (e : Vec Ideal S65536x21 .f32) (n : Fin 65536) (j : Fin 21) :
    rowQuotient e (ix2 n j) = Ideal.div (e (ix2 n j)) (∑ i : Fin 21, e (ix2 n i)) := by
  unfold rowQuotient
  pointwise

/-- A cell's row is the softmax of its logits. -/
theorem row_at (L : Vec Ideal S65536x21 .f32) (n : Fin 65536) (j : Fin 21) :
    rowQuotient (exps L) (ix2 n j) = softmax (fun i => (L (ix2 n i) : EReal)) j := by
  rw [rowQuotient_at]
  simp only [exps_at]
  rfl

/-- Cell `n`'s row lands at segment `g` exactly when its label, read signed, is `g`, each entry in its own column. -/
theorem lands_row (idx : IVec S65536x1 32) (n : Fin 65536) (i j : Fin 21) (g : Fin 256) :
    scatter_S256x21_S65536x1_S65536x21_1_0_0_1.resultIdx? (ix2 n i) idx = some (ix2 g j)
      ↔ (idx (ix2 n 0)).toInt = (g.val : Int) ∧ i = j := by
  have e0 : scatter_S256x21_S65536x1_S65536x21_1_0_0_1.start (ix2 n i) idx 0 = (idx (ix2 n 0)).toInt := by
    show (idx _).toInt = _
    congr 2
    funext a
    fin_cases a <;> rfl
  have e1 : scatter_S256x21_S65536x1_S65536x21_1_0_0_1.start (ix2 n i) idx 1 = 0 := rfl
  have w0 : scatter_S256x21_S65536x1_S65536x21_1_0_0_1.window (ix2 n i) 0 = 0 := rfl
  have w1 : scatter_S256x21_S65536x1_S65536x21_1_0_0_1.window (ix2 n i) 1 = i.val := rfl
  rw [resultIdx?_eq_some, Fin.forall_fin_two, e0, e1, w0, w1, Fin.ext_iff]
  show (idx (ix2 n 0)).toInt + ((0 : Nat) : Int) = (g.val : Int) ∧ 0 + (i.val : Int) = (j.val : Int) ↔ _
  omega

/-- A segment's total is the sum of its cells' rows. -/
theorem totals_at (s : Vec Ideal S65536 .i32) (y : Vec Ideal S65536x21 .f32) (g : Fin 256) (j : Fin 21) :
    (totals s y (ix2 g j) : EReal) = ∑ n : Fin 65536 with (s (ix1 n) : BitVec 32).toInt = (g.val : Int), (y (ix2 n j) : EReal) := by
  have hs : ∀ n : Fin 65536, (broadcastInDim S65536x1 ![0] bcast_S65536_S65536x1_0 s : IVec S65536x1 32) (ix2 n 0) = s (ix1 n) := fun n => by
    pointwise
  have hz : ((broadcastInDim S256x21 ![] bcast_S_S256x21 (constant (F := Ideal) S_ .f32 0x00000000#32) : Vec Ideal S256x21 .f32) (ix2 g j) : EReal) = 0 := by
    pointwise
  have h : (totals s y (ix2 g j) : EReal) = (broadcastInDim S256x21 ![] bcast_S_S256x21 (constant (F := Ideal) S_ .f32 0x00000000#32) : Vec Ideal S256x21 .f32) (ix2 g j)
      + ∑ k with scatter_S256x21_S65536x1_S65536x21_1_0_0_1.resultIdx? k (broadcastInDim S65536x1 ![0] bcast_S65536_S65536x1_0 s : IVec S65536x1 32) = some (ix2 g j), (y k : EReal) := rfl
  rw [h, hz, zero_add]
  symm
  refine Finset.sum_bij (fun n _ => ix2 n j) (fun n hn => ?_) (fun a _ b _ e => ?_) (fun k hk => ?_) (fun _ _ => rfl)
  · rw [Finset.mem_filter] at hn ⊢
    exact ⟨Finset.mem_univ _, (lands_row _ n j j g).2 ⟨by rw [hs]; exact hn.2, rfl⟩⟩
  · exact congrFun e 0
  · obtain ⟨n, i, rfl⟩ : ∃ (n : Fin 65536) (i : Fin 21), k = ix2 n i := ⟨k 0, k 1, eq_ix2 k⟩
    rw [Finset.mem_filter, lands_row, hs] at hk
    obtain ⟨-, h1, rfl⟩ := hk
    exact ⟨n, Finset.mem_filter.2 ⟨Finset.mem_univ _, h1⟩, rfl⟩

/-- The final quotient at an entry. -/
theorem quotient_at (T : Vec Ideal S256x21 .f32) (g : Fin 256) (j : Fin 21) :
    quotient T (ix2 g j) = Ideal.div (T (ix2 g j)) (max (∑ i : Fin 21, (T (ix2 g i) : EReal)) eps) := by
  unfold quotient
  pointwise

/-- **What the reference returns**: at segment `g` and cell type `j`, the fraction over the launch's arguments. -/
theorem result_at (m : (ℓ : Loc nD τ sig) → Buf (Elt Ideal) ℓ) (c : Dev nD) (g : Fin 256) (j : Fin 21) :
    (Value.res_out0 m c (ix2 g j) : EReal) = fraction
      (fun n : Fin 65536 => softmax (logit (fun k => (m ((c : Thread nD τ).loc main_arg0) : Vec Ideal S65536x2048 .f32) (ix2 n k))
        (fun g k => (m ((c : Thread nD τ).loc main_arg2) : Vec Ideal S2048x20 .f32) (ix2 g k))
        (fun k => (m ((c : Thread nD τ).loc main_arg3) : Vec Ideal S20 .f32) (ix1 k)) transform))
      (fun n => ((m ((c : Thread nD τ).loc main_arg1) : Vec Ideal S65536 .i32) (ix1 n) : BitVec 32).toInt = (g.val : Int)) j := by
  rw [result_stages, quotient_at]
  simp only [totals_at, row_at, logits_at, transform_at]
  rfl

end Cert.ReferenceIdeal.RowValue
-- ==== Proof.ValueEq.lean ====
/-
  The two programs' results agree: from memories that agree on the four arguments, what the kernel returns is what
  the reference returns, at every entry.
-/
module

public import proofs.«01_k».proof.Proof.KernelValue
public import proofs.«01_k».proof.Proof.RefValue

@[expose] public section

namespace Cert.Pseudobulk

open Idealize.ShloMosaic Idealize.ShloMosaic.TcCoe Idealize.SL.Sem

/-- From memories that agree on the arguments, the kernel's result is the reference's. -/
theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : (m' ((c.tc : Thread Cert.ReferenceIdeal.nD Cert.ReferenceIdeal.τ).loc Cert.ReferenceIdeal.main_arg0) : Vec Ideal Cert.ReferenceIdeal.S65536x2048 .f32)
      = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1) : Vec Ideal Cert.ReferenceIdeal.S65536 .i32)
      = m ((c.tc : Thread Cert.KernelIdeal.nD Cert.KernelIdeal.τ).loc Cert.KernelIdeal.main_arg1))
    (h2 : (m' ((c.tc : Thread Cert.ReferenceIdeal.nD Cert.ReferenceIdeal.τ).loc Cert.ReferenceIdeal.main_arg2) : Vec Ideal Cert.ReferenceIdeal.S2048x20 .f32)
      = m ((c.tc : Thread Cert.KernelIdeal.nD Cert.KernelIdeal.τ).loc Cert.KernelIdeal.main_arg2))
    (h3 : (m' ((c.tc : Thread Cert.ReferenceIdeal.nD Cert.ReferenceIdeal.τ).loc Cert.ReferenceIdeal.main_arg3) : Vec Ideal Cert.ReferenceIdeal.S20 .f32)
      = m ((c.tc : Thread Cert.KernelIdeal.nD Cert.KernelIdeal.τ).loc Cert.KernelIdeal.main_arg3)) :
    (Cert.ReferenceIdeal.Value.res_out0 m' c : Vec Ideal Cert.ReferenceIdeal.S256x21 .f32) = Cert.KernelIdeal.FoldRun.result m c := by
  funext i
  obtain ⟨g, j, rfl⟩ : ∃ (g : Fin 256) (j : Fin 21), i = ix2 g j := ⟨i 0, i 1, eq_ix2 i⟩
  refine (Cert.ReferenceIdeal.RowValue.result_at m' c g j).trans (Eq.trans ?_ (Cert.KernelIdeal.FoldRun.result_at m c g j).symm)
  rw [h0, h1, h2, h3]

end Cert.Pseudobulk
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.ValueEq
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run leaves the arguments, and it has no semaphores. -/
theorem reference_frame : @Cert.quiescent_ReferenceIdeal Cert.ReferenceIdeal.Gen.facts := fun m g _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- The value claim: both programs run, and the reference's result is the kernel's. -/
theorem value : @Cert.algebraic_KernelIdeal_ReferenceIdeal Cert.KernelIdeal.Gen.facts Cert.ReferenceIdeal.Gen.facts :=
  fun m g m' g' _ hargs =>
    ⟨fun c => Cert.KernelIdeal.FoldRun.result m c, Cert.KernelIdeal.FoldRun.run m g,
      (θ_run (Cert.ReferenceIdeal.defs (F := Ideal)) _ _).mono
        (fun r h c => ⟨(h c).1.trans (Cert.Pseudobulk.result_eq m m' c (hargs c).1 (hargs c).2.1 (hargs c).2.2.1 (hargs c).2.2.2), (h c).2⟩)
        (Cert.ReferenceIdeal.Value.run (F := Ideal) m' g')⟩

/-- The five claims. -/
theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g, reference_frame,
  IdealRules.named_const.statement Cert.KernelIdeal.κ "mask" .f32 0xF149F2CA#32 ⊥ rfl, value⟩

end Cert.Proof

end
